-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x5120 : Shape := ⟨3, ![8, 1, 5120]⟩
abbrev S27648x5120 : Shape := ⟨2, ![27648, 5120]⟩
abbrev S27648x160 : Shape := ⟨2, ![27648, 160]⟩
abbrev S8x5120 : Shape := ⟨2, ![8, 5120]⟩
abbrev S160x27648 : Shape := ⟨2, ![160, 27648]⟩
abbrev S8x27648 : Shape := ⟨2, ![8, 27648]⟩
abbrev S512x5120 : Shape := ⟨2, ![512, 5120]⟩
abbrev S160x512 : Shape := ⟨2, ![160, 512]⟩
abbrev S8x512 : Shape := ⟨2, ![8, 512]⟩
abbrev S512x256 : Shape := ⟨2, ![512, 256]⟩
abbrev S256x512 : Shape := ⟨2, ![256, 512]⟩
abbrev S32x512 : Shape := ⟨2, ![32, 512]⟩
abbrev S1x512 : Shape := ⟨2, ![1, 512]⟩
abbrev S8x256 : Shape := ⟨2, ![8, 256]⟩

abbrev nBuf : Space → Nat
  | .hbm => 6
  | .vmem => 7
  | .smem => 0
  | _ => 0

abbrev bufTy : (tb : Table) → Fin (tcTables nBuf tb) → BufTy
  | .hbm, ⟨0, _⟩ => ⟨S8x1x5120, .bf16⟩
  | .hbm, ⟨1, _⟩ => ⟨S27648x5120, .i8⟩
  | .hbm, ⟨2, _⟩ => ⟨S27648x160, .f16⟩
  | .hbm, ⟨3, _⟩ => ⟨S8x5120, .bf16⟩
  | .hbm, ⟨4, _⟩ => ⟨S160x27648, .f16⟩
  | .hbm, ⟨5, _⟩ => ⟨S8x27648, .bf16⟩
  | .local _ .vmem, ⟨0, _⟩ => ⟨S8x5120, .bf16⟩
  | .local _ .vmem, ⟨1, _⟩ => ⟨S512x5120, .i8⟩
  | .local _ .vmem, ⟨2, _⟩ => ⟨S512x5120, .i8⟩
  | .local _ .vmem, ⟨3, _⟩ => ⟨S160x512, .f16⟩
  | .local _ .vmem, ⟨4, _⟩ => ⟨S160x512, .f16⟩
  | .local _ .vmem, ⟨5, _⟩ => ⟨S8x512, .bf16⟩
  | .local _ .vmem, ⟨6, _⟩ => ⟨S8x512, .bf16⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![54], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x512 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x1x5120 : Shape := ⟨3, ![8, 1, 5120]⟩
abbrev S27648x5120 : Shape := ⟨2, ![27648, 5120]⟩
abbrev S27648x160 : Shape := ⟨2, ![27648, 160]⟩
abbrev S8x5120 : Shape := ⟨2, ![8, 5120]⟩
abbrev S8x27648 : Shape := ⟨2, ![8, 27648]⟩
abbrev S27648x160x32 : Shape := ⟨3, ![27648, 160, 32]⟩
abbrev S27648x160x1 : Shape := ⟨3, ![27648, 160, 1]⟩

abbrev nBuf : Space → Nat
  | .hbm => 5
  | .vmem => 4
  | .smem => 0
  | _ => 0

abbrev bufTy : (tb : Table) → Fin (tcTables nBuf tb) → BufTy
  | .hbm, ⟨0, _⟩ => ⟨S8x1x5120, .bf16⟩
  | .hbm, ⟨1, _⟩ => ⟨S27648x5120, .i8⟩
  | .hbm, ⟨2, _⟩ => ⟨S27648x160, .f16⟩
  | .hbm, ⟨3, _⟩ => ⟨S8x5120, .bf16⟩
  | .hbm, ⟨4, _⟩ => ⟨S8x27648, .bf16⟩
  | .local _ .vmem, ⟨0, _⟩ => ⟨S8x5120, .bf16⟩
  | .local _ .vmem, ⟨1, _⟩ => ⟨S27648x5120, .i8⟩
  | .local _ .vmem, ⟨2, _⟩ => ⟨S27648x160, .f16⟩
  | .local _ .vmem, ⟨3, _⟩ => ⟨S8x27648, .bf16⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27648x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27648x160 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x27648 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
/-
  One step of the kernel's accumulation, named: the 256 columns starting at `256 * n` of the weight block are transposed,
  widened, scaled row group by row group, and multiplied into the accumulator. `out_eq` states that what the body leaves
  in the output block is the rounding of 20 such steps from zero.
-/
module

public import proofs.«01_k».proof.Proof.Gen.KernelIdeal.Frame
public import Idealize.ShloMosaic.Lib.Pipeline.Value

@[expose] public section

set_option maxRecDepth 16384

noncomputable section

namespace Cert.KernelIdeal.Tile

open Cert.KernelIdeal Cert.KernelIdeal.Gen Idealize.ShloMosaic

variable {F : FTy → Type} [FloatOps F]

/-- The weight columns `256 n … 256 n + 255` lie in the weight block. -/
theorem inbQ (n : Fin 20) : ∀ a, (![0, 256 * n.val] : Fin 2 → Nat) a + S512x256.size a ≤ S512x5120.size a := by
  intro a
  have := n.isLt
  match a with
  | ⟨0, _⟩ => show 0 + 512 ≤ 512; omega
  | ⟨1, _⟩ => show 256 * n.val + 256 ≤ 5120; omega

/-- The activation columns `256 n … 256 n + 255` lie in the activation block. -/
theorem inbX (n : Fin 20) : ∀ a, (![0, 256 * n.val] : Fin 2 → Nat) a + S8x256.size a ≤ S8x5120.size a := by
  intro a
  have := n.isLt
  match a with
  | ⟨0, _⟩ => show 0 + 8 ≤ 8; omega
  | ⟨1, _⟩ => show 256 * n.val + 256 ≤ 5120; omega

/-- Scale row `8 n + b` lies in the scale block. -/
theorem inbD (n : Fin 20) (b : Fin 8) :
    ∀ a, (![8 * n.val + b.val, 0] : Fin 2 → Nat) a + S1x512.size a ≤ S160x512.size a := by
  intro a
  have := n.isLt
  have := b.isLt
  match a with
  | ⟨0, _⟩ => show 8 * n.val + b.val + 1 ≤ 160; omega
  | ⟨1, _⟩ => show 0 + 512 ≤ 512; omega

/-- Rows `32 b … 32 b + 31` are a slice of a 256-row tile. -/
theorem slicesB (b : Fin 8) : S256x512.Slices ![32 * b.val, 0] S32x512 := by
  fin_cases b
  · exact slices_S256x512_o0_0_S32x512
  · exact slices_S256x512_o32_0_S32x512
  · exact slices_S256x512_o64_0_S32x512
  · exact slices_S256x512_o96_0_S32x512
  · exact slices_S256x512_o128_0_S32x512
  · exact slices_S256x512_o160_0_S32x512
  · exact slices_S256x512_o192_0_S32x512
  · exact slices_S256x512_o224_0_S32x512

/-- The integer codes of one weight tile, transposed and widened. -/
def codes (q : Vec F S512x256 .i8) : FVec F S256x512 .f32 :=
  extf .f32 (sitofp .bf16 (transpose S256x512 [1, 0] q transposes_S512x256_p1_0_S256x512)) bitsLt_bf16_f32

/-- Row group `b` of a tile, each column times its scale. -/
def part (q : Vec F S512x256 .i8) (b : Fin 8) (d : Vec F S1x512 .f16) : FVec F S32x512 .f32 :=
  mulf (extractStridedSlice S32x512 ![32 * b.val, 0] (codes q) (slicesB b))
    (broadcastTo S32x512 (extf .f32 (shapeCast S1x512 d shapeCasts_S1x512_S1x512) bitsLt_f16_f32) broadcasts_S1x512_S32x512)

/-- The dequantised tile: its eight scaled row groups on top of each other, rounded. -/
def weight (q : Vec F S512x256 .i8) (d : Fin 8 → Vec F S1x512 .f16) : FVec F S256x512 .bf16 :=
  truncf .bf16 (concatenate S256x512 0 [⟨S32x512, part q 0 (d 0)⟩, ⟨S32x512, part q 1 (d 1)⟩, ⟨S32x512, part q 2 (d 2)⟩,
      ⟨S32x512, part q 3 (d 3)⟩, ⟨S32x512, part q 4 (d 4)⟩, ⟨S32x512, part q 5 (d 5)⟩, ⟨S32x512, part q 6 (d 6)⟩,
      ⟨S32x512, part q 7 (d 7)⟩]
    concatenates_S32x512_S32x512_S32x512_S32x512_S32x512_S32x512_S32x512_S32x512_S256x512_d0) bitsLt_bf16_f32

/-- One step: the accumulator plus the product of the activation columns with the dequantised tile. -/
def tile (a : FVec F S8x512 .f32) (x : Vec F S8x256 .bf16) (q : Vec F S512x256 .i8) (d : Fin 8 → Vec F S1x512 .f16) :
    FVec F S8x512 .f32 :=
  addf a (matmul dot_S8x256_S256x512_S8x512_1_0_0_1_n_n none (shapeCast S8x256 x shapeCasts_S8x256_S8x256 : FVec F S8x256 .bf16) (weight q d)
    (constant S8x512 .f32 0x00000000#32))

/-- Step `n` of the blocks `x0` (activations), `x1` (codes) and `x2` (scales). -/
def step (x0 : Vec F S8x5120 .bf16) (x1 : Vec F S512x5120 .i8) (x2 : Vec F S160x512 .f16) (n : Fin 20)
    (a : FVec F S8x512 .f32) : FVec F S8x512 .f32 :=
  tile a (View.ld x0 (Rect.unit (s := S8x5120) ![0, 256 * n.val] S8x256.size (inbX n)))
    (View.ld x1 (Rect.unit (s := S512x5120) ![0, 256 * n.val] S512x256.size (inbQ n)))
    (fun b => View.ld x2 (Rect.unit (s := S160x512) ![8 * n.val + b.val, 0] S1x512.size (inbD n b)))

/-- The accumulator after the first `n` steps. -/
def acc (x0 : Vec F S8x5120 .bf16) (x1 : Vec F S512x5120 .i8) (x2 : Vec F S160x512 .f16) :
    (n : Nat) → n ≤ 20 → FVec F S8x512 .f32
  | 0, _ => broadcast S8x512 (Scalar.ofBits .f32 0x00000000#32)
  | n + 1, h => step x0 x1 x2 ⟨n, h⟩ (acc x0 x1 x2 n (Nat.le_of_succ_le h))

/-- What the body leaves in the output block: the accumulator after all 20 steps, rounded. -/
theorem out_eq (x0 : Vec F S8x5120 .bf16) (x1 : Vec F S512x5120 .i8) (x2 : Vec F S160x512 .f16) :
    out0_3 x0 x1 x2 = truncf .bf16 (acc x0 x1 x2 20 (le_refl 20)) bitsLt_bf16_f32 := by
  have hz : (![0, 0] : Fin 2 → Nat) = fun _ => 0 := funext fun a => by fin_cases a <;> rfl
  unfold out0_3
  rw [View.canon_unit_zero hz]
  rfl

end Cert.KernelIdeal.Tile

end
-- ==== Proof.TileValue.lean ====
/-
  What the kernel's accumulation holds over the extended reals. `tile_apply`: one step adds the products of 256 activations
  with 256 dequantised codes. `acc_apply`: after `n` steps the accumulator holds the sum of the first `256 n` such products.
-/
module

public import proofs.«01_k».proof.Proof.Tile
public import Idealize.ShloMosaic.Lib.Pointwise
public import Idealize.ShloMosaic.Lib.Pipeline.ValueKit.Tiles

@[expose] public section

set_option maxRecDepth 16384

noncomputable section

namespace Cert.KernelIdeal.Tile

open Cert.KernelIdeal Cert.KernelIdeal.Gen Idealize.ShloMosaic

/-- Row `r` of row group `b`: the code of column `32 b + r` times the group's scale. -/
theorem part_apply (q : Vec Ideal S512x256 .i8) (b : Fin 8) (d : Vec Ideal S1x512 .f16) (r : Fin 32) (o : Fin 512)
    (k : Fin 256) (hk : k.val = 32 * b.val + r.val) :
    part (F := Ideal) q b d (ix2 r o) = (((q (ix2 o k) : BitVec 8).toInt : ℝ) : EReal) * d (ix2 0 o) := by
  have e : (⟨32 * b.val + r.val, by omega⟩ : Fin 256) = k := Fin.ext hk.symm
  unfold part codes
  pointwise
  rw [e]
  rfl

/-- Row `k` of the dequantised tile: the code of column `k` times the scale of the 32 columns that hold it. -/
theorem weight_apply (q : Vec Ideal S512x256 .i8) (d : Fin 8 → Vec Ideal S1x512 .f16) (k : Fin 256) (o : Fin 512) :
    weight (F := Ideal) q d (ix2 k o)
      = (((q (ix2 o k) : BitVec 8).toInt : ℝ) : EReal) * d ⟨k.val / 32, by omega⟩ (ix2 0 o) := by
  have hk := k.isLt
  have hb : k.val / 32 < 8 := by omega
  have hr : k.val % 32 < 32 := by omega
  refine Eq.trans ?_ (part_apply q ⟨k.val / 32, hb⟩ (d ⟨k.val / 32, hb⟩) ⟨k.val % 32, hr⟩ o k ?_)
  · refine concatenate_ofFn_apply (t := S256x512) (s₁ := S32x512) 0 (fun b : Fin 8 => part (F := Ideal) q b (d b))
      concatenates_S32x512_S32x512_S32x512_S32x512_S32x512_S32x512_S32x512_S32x512_S256x512_d0 rfl 32 rfl (ix2 k o)
      ⟨k.val / 32, hb⟩ rfl (ix2 ⟨k.val % 32, hr⟩ o) rfl fun c hc => ?_
    match c, hc with
    | ⟨0, _⟩, hc => exact absurd rfl hc
    | ⟨1, _⟩, _ => rfl
  · show k.val = 32 * (k.val / 32) + k.val % 32
    omega

/-- One step adds 256 products. -/
theorem tile_apply (a : FVec Ideal S8x512 .f32) (x : Vec Ideal S8x256 .bf16) (q : Vec Ideal S512x256 .i8)
    (d : Fin 8 → Vec Ideal S1x512 .f16) (i : Fin 8) (o : Fin 512) :
    tile (F := Ideal) a x q d (ix2 i o)
      = a (ix2 i o) + ∑ k : Fin 256, x (ix2 i k) * ((((q (ix2 o k) : BitVec 8).toInt : ℝ) : EReal) * d ⟨k.val / 32, by omega⟩ (ix2 0 o)) := by
  unfold tile
  pointwise
  simp only [weight_apply]

/-- The product that column `k` contributes to output `(i, o)`: the activation times the code times the scale of the
    32 columns that hold `k`. (Zero past the last column.) -/
def term (x0 : Vec Ideal S8x5120 .bf16) (x1 : Vec Ideal S512x5120 .i8) (x2 : Vec Ideal S160x512 .f16)
    (i : Fin 8) (o : Fin 512) (k : Nat) : EReal :=
  if h : k < 5120 then
    x0 (ix2 i ⟨k, h⟩) * ((((x1 (ix2 o ⟨k, h⟩) : BitVec 8).toInt : ℝ) : EReal) * x2 (ix2 ⟨k / 32, by omega⟩ o))
  else 0

/-- Step `n` adds the products of columns `256 n … 256 n + 255`. -/
theorem step_apply (x0 : Vec Ideal S8x5120 .bf16) (x1 : Vec Ideal S512x5120 .i8) (x2 : Vec Ideal S160x512 .f16)
    (n : Fin 20) (a : FVec Ideal S8x512 .f32) (i : Fin 8) (o : Fin 512) :
    step (F := Ideal) x0 x1 x2 n a (ix2 i o)
      = a (ix2 i o) + ∑ k ∈ Finset.range 256, term x0 x1 x2 i o (256 * n.val + k) := by
  have hn := n.isLt
  unfold step
  rw [tile_apply, Finset.sum_range]
  congr 1
  refine Finset.sum_congr rfl fun k _ => ?_
  have hk := k.isLt
  have h : 256 * n.val + k.val < 5120 := by omega
  rw [term, dif_pos h]
  refine congrArg₂ (· * ·) ?_ (congrArg₂ (· * ·) ?_ ?_)
  · refine View.ld_unit_apply_of x0 _ _ (inbX n) (ix2 i k) _ fun c => ?_
    match c with
    | ⟨0, _⟩ => exact (Nat.zero_add _).symm
    | ⟨1, _⟩ => rfl
  · refine congrArg (fun b : BitVec 8 => ((b.toInt : ℝ) : EReal)) ?_
    refine View.ld_unit_apply_of x1 _ _ (inbQ n) (ix2 o k) _ fun c => ?_
    match c with
    | ⟨0, _⟩ => exact (Nat.zero_add _).symm
    | ⟨1, _⟩ => rfl
  · refine View.ld_unit_apply_of x2 _ _ (inbD n ⟨k.val / 32, by omega⟩) (ix2 0 o) _ fun c => ?_
    match c with
    | ⟨0, _⟩ =>
      show (256 * n.val + k.val) / 32 = 8 * n.val + k.val / 32 + 0
      omega
    | ⟨1, _⟩ => exact (Nat.zero_add _).symm

/-- After `n` steps the accumulator holds the sum of the products of the first `256 n` columns. -/
theorem acc_apply (x0 : Vec Ideal S8x5120 .bf16) (x1 : Vec Ideal S512x5120 .i8) (x2 : Vec Ideal S160x512 .f16)
    (i : Fin 8) (o : Fin 512) : ∀ (n : Nat) (h : n ≤ 20),
    acc (F := Ideal) x0 x1 x2 n h (ix2 i o) = ∑ k ∈ Finset.range (256 * n), term x0 x1 x2 i o k
  | 0, _ => by
    rw [Nat.mul_zero, Finset.sum_range_zero]
    show Ideal.ofBits .f32 0 = 0
    simp [Ideal.ofBits, Ideal.ieee]
  | n + 1, h => by
    rw [Nat.mul_succ, Finset.sum_range_add, acc, step_apply, acc_apply x0 x1 x2 i o n]

/-- What the body leaves in the output block, read at `(i, o)`: the sum of the products of all 5120 columns. -/
theorem out_apply (x0 : Vec Ideal S8x5120 .bf16) (x1 : Vec Ideal S512x5120 .i8) (x2 : Vec Ideal S160x512 .f16)
    (i : Fin 8) (o : Fin 512) :
    out0_3 (F := Ideal) x0 x1 x2 (ix2 i o)
      = ∑ k : Fin 5120, x0 (ix2 i k) * ((((x1 (ix2 o k) : BitVec 8).toInt : ℝ) : EReal) * x2 (ix2 ⟨k.val / 32, by omega⟩ o)) := by
  rw [out_eq]
  refine (acc_apply x0 x1 x2 i o 20 (le_refl 20)).trans ?_
  rw [Finset.sum_range]
  refine Finset.sum_congr rfl fun k _ => ?_
  rw [term, dif_pos k.isLt]

end Cert.KernelIdeal.Tile

end
-- ==== Proof.Linear.lean ====
/-
  The function both programs compute, written once: a linear layer whose weight is stored as 8-bit codes with one scale for
  every 32 consecutive columns of a row.
-/
module

public import Idealize.ShloMosaic.Lib.Pointwise

@[expose] public section

noncomputable section

namespace Cert.Linear

open Idealize.ShloMosaic

/-- Entry `(i, o)` of the layer's result: the sum over the 5120 columns `k` of activation `(i, k)` times the dequantised
    weight `(o, k)`, which is its code times the scale of the 32 columns that hold `k`. -/
def linear (x : FVec Ideal ⟨3, ![8, 1, 5120]⟩ .bf16) (w : Vec Ideal ⟨2, ![27648, 5120]⟩ .i8) (d : FVec Ideal ⟨2, ![27648, 160]⟩ .f16) :
    FVec Ideal ⟨2, ![8, 27648]⟩ .bf16 :=
  fun j => ∑ k : Fin 5120, x (ix3 (j 0) 0 k)
    * ((((w (ix2 (j 1) k) : BitVec 8).toInt : ℝ) : EReal) * d (ix2 (j 1) ⟨k.val / 32, by omega⟩))

end Cert.Linear

end
-- ==== Proof.KernelValue.lean ====
/-
  The kernel's result array after the run is `Cert.Linear.linear` of its three arguments: each grid point writes the 512
  outputs of its block (`flushed_eq`), and the 54 blocks cover the array (`cover`).
-/
module

public import proofs.«01_k».proof.Proof.TileValue
public import proofs.«01_k».proof.Proof.Linear
public import proofs.«01_k».proof.Proof.Gen.KernelIdeal.Value

@[expose] public section

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The host operations leave the activations with their middle axis dropped. -/
theorem after_x (W : Valuation τ sig (Elt Ideal)) : StableHlo.after hostOps0 W (main_v0 : DevRef τ sig)
    = (shapeCast S8x5120 (W (main_arg0 : DevRef τ sig) : S8x1x5120.Idx → Elt Ideal .bf16) shapeCasts_S8x1x5120_S8x5120 : S8x5120.Idx → Elt Ideal .bf16) := by
  after_results
  rfl

/-- The host operations leave the scales transposed. -/
theorem after_d (W : Valuation τ sig (Elt Ideal)) : StableHlo.after hostOps0 W (main_v1 : DevRef τ sig)
    = (transpose S160x27648 [1, 0] (W (main_arg2 : DevRef τ sig) : S27648x160.Idx → Elt Ideal .f16) transposes_S27648x160_S160x27648_1_0 : S160x27648.Idx → Elt Ideal .f16) := by
  after_results

/-- The activations with their middle axis dropped, read at an index. -/
theorem x_apply (x : S8x1x5120.Idx → Elt Ideal .bf16) (i : Fin 8) (k : Fin 5120) :
    shapeCast S8x5120 x shapeCasts_S8x1x5120_S8x5120 (ix2 i k) = x (ix3 i 0 k) := by
  pointwise

/-- The transposed scales read at an index. -/
theorem d_apply (d : S27648x160.Idx → Elt Ideal .f16) (b : Fin 160) (o : Fin 27648) :
    transpose S160x27648 [1, 0] d transposes_S27648x160_S160x27648_1_0 (ix2 b o) = d (ix2 o b) := by
  pointwise

/-- Where the four windows' blocks lie at each grid point. -/
theorem closed : ∀ t : Fin grid0.N,
    (win0_0.index t 0 * win0_0.size 0 = 0 ∧ win0_0.index t 1 * win0_0.size 1 = 0)
    ∧ (win0_1.index t 0 * win0_1.size 0 = 512 * t.val ∧ win0_1.index t 1 * win0_1.size 1 = 0)
    ∧ (win0_2.index t 0 * win0_2.size 0 = 0 ∧ win0_2.index t 1 * win0_2.size 1 = 512 * t.val)
    ∧ (win0_3.index t 0 * win0_3.size 0 = 0 ∧ win0_3.index t 1 * win0_3.size 1 = 512 * t.val)
    ∧ win0_3.xsize (grid0.coords t) 0 = 8 ∧ win0_3.xsize (grid0.coords t) 1 = 512 := by
  decide +kernel

/-- There are 54 grid points. -/
theorem lt54 (t : Fin cfg0.N) : t.val < 54 := lt_of_lt_of_eq t.isLt N_0

/-- The activation block at every point is the whole activation array. -/
theorem blk_x (c : Dev nD) (t : Fin cfg0.N) (i : Fin 8) (k : Fin 5120) :
    (iblk m c 0 t : Vec Ideal S8x5120 .bf16) (ix2 i k)
      = (m ((c : Thread nD τ).loc main_arg0) : S8x1x5120.Idx → Elt Ideal .bf16) (ix3 i 0 k) := by
  obtain ⟨⟨h0, h1⟩, -⟩ := closed t
  have e : (iblk m c 0 t : Vec Ideal S8x5120 .bf16) (ix2 i k) = (V m c main_v0 : S8x5120.Idx → Elt Ideal .bf16) (ix2 i k) := by
    refine congrArg (V m c main_v0 : S8x5120.Idx → Elt Ideal .bf16) (funext fun a => Fin.ext ?_)
    match a with
    | ⟨0, _⟩ => show win0_0.index t 0 * win0_0.size 0 + 1 * i.val = i.val; rw [h0]; omega
    | ⟨1, _⟩ => show win0_0.index t 1 * win0_0.size 1 + 1 * k.val = k.val; rw [h1]; omega
  exact e.trans ((congrFun (after_x _) (ix2 i k)).trans (x_apply _ i k))

/-- The code block at point `t` is rows `512 t … 512 t + 511` of the code array. -/
theorem blk_w (c : Dev nD) (t : Fin cfg0.N) (o : Fin 512) (k : Fin 5120) (o' : Fin 27648) (ho : o'.val = 512 * t.val + o.val) :
    (iblk m c 1 t : Vec Ideal S512x5120 .i8) (ix2 o k)
      = (m ((c : Thread nD τ).loc main_arg1) : S27648x5120.Idx → Elt Ideal .i8) (ix2 o' k) := by
  obtain ⟨-, ⟨h0, h1⟩, -⟩ := closed t
  have e : (iblk m c 1 t : Vec Ideal S512x5120 .i8) (ix2 o k) = (V m c main_arg1 : S27648x5120.Idx → Elt Ideal .i8) (ix2 o' k) := by
    refine congrArg (V m c main_arg1 : S27648x5120.Idx → Elt Ideal .i8) (funext fun a => Fin.ext ?_)
    match a with
    | ⟨0, _⟩ => show win0_1.index t 0 * win0_1.size 0 + 1 * o.val = o'.val; rw [h0]; omega
    | ⟨1, _⟩ => show win0_1.index t 1 * win0_1.size 1 + 1 * k.val = k.val; rw [h1]; omega
  rw [e, V_main_arg1]

/-- The scale block at point `t` is columns `512 t … 512 t + 511` of the transposed scales. -/
theorem blk_d (c : Dev nD) (t : Fin cfg0.N) (b : Fin 160) (o : Fin 512) (o' : Fin 27648) (ho : o'.val = 512 * t.val + o.val) :
    (iblk m c 2 t : Vec Ideal S160x512 .f16) (ix2 b o)
      = (m ((c : Thread nD τ).loc main_arg2) : S27648x160.Idx → Elt Ideal .f16) (ix2 o' b) := by
  obtain ⟨-, -, ⟨h0, h1⟩, -⟩ := closed t
  have e : (iblk m c 2 t : Vec Ideal S160x512 .f16) (ix2 b o) = (V m c main_v1 : S160x27648.Idx → Elt Ideal .f16) (ix2 b o') := by
    refine congrArg (V m c main_v1 : S160x27648.Idx → Elt Ideal .f16) (funext fun a => Fin.ext ?_)
    match a with
    | ⟨0, _⟩ => show win0_2.index t 0 * win0_2.size 0 + 1 * b.val = b.val; rw [h0]; omega
    | ⟨1, _⟩ => show win0_2.index t 1 * win0_2.size 1 + 1 * o.val = o'.val; rw [h1]; omega
  exact e.trans ((congrFun (after_d _) (ix2 b o')).trans (d_apply _ b o'))

/-- The layer's result of device `c`'s arguments. -/
abbrev G (c : Dev nD) : Buf (Elt Ideal) ((c : Thread nD τ).loc main_v2) :=
  Cert.Linear.linear (m ((c : Thread nD τ).loc main_arg0)) (m ((c : Thread nD τ).loc main_arg1)) (m ((c : Thread nD τ).loc main_arg2))

/-- What point `t` writes back is block `t` of the layer's result. -/
theorem flushed_eq (c : Dev nD) (t : Fin cfg0.N) :
    (dats m 0 c).flushed 3 t = (win0_3.blk t).view.read (Elt Ideal) (G m c) := by
  have ht := lt54 t
  obtain ⟨-, -, -, ⟨h0, h1⟩, -⟩ := closed t
  rw [Value.flushed3]
  funext j
  have hj0 : (j 0).val < 8 := (j 0).isLt
  have hj1 : (j 1).val < 512 := (j 1).isLt
  have ej : (win0_3.blk t).view.read (Elt Ideal) (G m c) j = G m c (ix2 (⟨(j 0).val, hj0⟩ : Fin 8) (⟨512 * t.val + (j 1).val, by omega⟩ : Fin 27648)) := by
    refine congrArg (G m c) (funext fun a => Fin.ext ?_)
    match a with
    | ⟨0, _⟩ => show win0_3.index t 0 * win0_3.size 0 + 1 * (j 0).val = (j 0).val; rw [h0]; omega
    | ⟨1, _⟩ => show win0_3.index t 1 * win0_3.size 1 + 1 * (j 1).val = 512 * t.val + (j 1).val; rw [h1]; omega
  rw [ej]
  have el : (cfg0.win 3).cut (grid0.coords t) (out0_3 (iblk m c 0 t) (iblk m c 1 t) (iblk m c 2 t)) j
      = out0_3 (F := Ideal) (iblk m c 0 t) (iblk m c 1 t) (iblk m c 2 t) (ix2 (⟨(j 0).val, hj0⟩ : Fin 8) (⟨(j 1).val, hj1⟩ : Fin 512)) := by
    refine congrArg (out0_3 (F := Ideal) (iblk m c 0 t) (iblk m c 1 t) (iblk m c 2 t)) (funext fun a => Fin.ext ?_)
    match a with
    | ⟨0, _⟩ => rfl
    | ⟨1, _⟩ => rfl
  rw [el, Tile.out_apply]
  refine Finset.sum_congr rfl fun k _ => ?_
  exact congrArg₂ (· * ·) (blk_x m c t _ k) (congrArg₂ (· * ·)
    (congrArg (fun b : BitVec 8 => ((b.toInt : ℝ) : EReal)) (blk_w m c t ⟨(j 1).val, hj1⟩ k ⟨512 * t.val + (j 1).val, by omega⟩ rfl))
    (blk_d m c t ⟨k.val / 32, by omega⟩ ⟨(j 1).val, hj1⟩ ⟨512 * t.val + (j 1).val, by omega⟩ rfl))

/-- An index is in point `t`'s block exactly when its column is one of the block's 512. -/
theorem mem_blk (t : Fin cfg0.N) (i : S8x27648.Idx) :
    i ∈ ((cfg0.win 3).blk t).view.set ↔ 512 * t.val ≤ (i 1 : Nat) ∧ (i 1 : Nat) < 512 * t.val + 512 := by
  show i ∈ ((View.whole main_v2).slice (win0_3.rect t)).set ↔ _
  rw [View.set_slice_whole, Rect.mem_set_unit]
  have hi : (i 0 : Nat) < 8 := (i 0).isLt
  obtain ⟨-, -, -, ⟨h0, h1⟩, x0, x1⟩ := closed t
  refine ⟨fun h => ?_, fun h a => ?_⟩
  · have : win0_3.index t 1 * win0_3.size 1 ≤ (i 1 : Nat) ∧ (i 1 : Nat) < win0_3.index t 1 * win0_3.size 1 + win0_3.xsize (grid0.coords t) 1 := h 1
    rw [h1, x1] at this; exact this
  · match a with
    | ⟨0, _⟩ => show win0_3.index t 0 * win0_3.size 0 ≤ (i 0 : Nat) ∧ (i 0 : Nat) < win0_3.index t 0 * win0_3.size 0 + win0_3.xsize (grid0.coords t) 0
                rw [h0, x0]; omega
    | ⟨1, _⟩ => show win0_3.index t 1 * win0_3.size 1 ≤ (i 1 : Nat) ∧ (i 1 : Nat) < win0_3.index t 1 * win0_3.size 1 + win0_3.xsize (grid0.coords t) 1
                rw [h1, x1]; exact h

/-- The 54 blocks cover the result array. -/
theorem cover (i : S8x27648.Idx) : ∃ t : Fin cfg0.N, (cfg0.win 3).flush t = true ∧ i ∈ ((cfg0.win 3).blk t).view.set := by
  have hi : (i 1 : Nat) < 27648 := (i 1).isLt
  refine ⟨⟨(i 1 : Nat) / 512, by show _ < grid0.N; rw [N_0]; omega⟩, flush0_3 _, ?_⟩
  rw [mem_blk]
  dsimp only
  omega

/-- The result array ends holding the layer's result. -/
theorem final (c : Dev nD) : (dats m 0 c).arrAt 3 cfg0.N = G m c :=
  (dats m 0 c).arrAt_eq_of_cover 3 (G m c) (fun t _ => flushed_eq m c t) cover

/-- The kernel's run: its result is the layer's result, its arguments end unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Whole

end
-- ==== Proof.RefValue.lean ====
/-
  The reference's result array after the run is `Cert.Linear.linear` of its three arguments: it dequantises the whole weight
  and takes one product.
-/
module

public import proofs.«01_k».proof.Proof.Linear
public import proofs.«01_k».proof.Proof.Gen.ReferenceIdeal.Value

@[expose] public section

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

/-- The reference's payload read at `(i, o)`. -/
theorem pay_apply (w : Vec Ideal S27648x5120 .i8) (d : Vec Ideal S27648x160 .f16) (x : Vec Ideal S8x5120 .bf16)
    (i : Fin 8) (o : Fin 27648) :
    k0_pay1 (F := Ideal) w d x (ix2 i o)
      = ∑ k : Fin 5120, x (ix2 i k) * ((((w (ix2 o k) : BitVec 8).toInt : ℝ) : EReal) * d (ix2 o ⟨k.val / 32, by omega⟩)) := by
  unfold k0_pay1
  pointwise
  rfl

/-- What the one grid point leaves in the result block, read at `(i, o)`. -/
theorem out_apply (x : Vec Ideal S8x5120 .bf16) (w : Vec Ideal S27648x5120 .i8) (d : Vec Ideal S27648x160 .f16)
    (i : Fin 8) (o : Fin 27648) :
    out0_3 (F := Ideal) x w d (ix2 i o)
      = ∑ k : Fin 5120, x (ix2 i k) * ((((w (ix2 o k) : BitVec 8).toInt : ℝ) : EReal) * d (ix2 o ⟨k.val / 32, by omega⟩)) := by
  unfold out0_3
  have h0 : (![0, 0] : Fin 2 → Nat) = fun _ => 0 := by decide
  rw [View.canon_unit_zero h0, View.ld_unit_zero h0, View.ld_unit_zero h0, View.ld_unit_zero h0]
  exact pay_apply w d x i o

variable (m : (ℓ : Loc nD τ sig) → Buf (Elt Ideal) ℓ) (ρ : Dev nD → PrngReg)

/-- The host operation leaves the activations with their middle axis dropped. -/
theorem after_x (W : Valuation τ sig (Elt Ideal)) : StableHlo.after hostOps0 W (main_v0 : DevRef τ sig)
    = (shapeCast S8x5120 (W (main_arg0 : DevRef τ sig) : S8x1x5120.Idx → Elt Ideal .bf16) shapeCasts_S8x1x5120_S8x5120 : S8x5120.Idx → Elt Ideal .bf16) := by
  after_results
  rfl

/-- The activations with their middle axis dropped, read at an index. -/
theorem x_apply (x : S8x1x5120.Idx → Elt Ideal .bf16) (i : Fin 8) (k : Fin 5120) :
    shapeCast S8x5120 x shapeCasts_S8x1x5120_S8x5120 (ix2 i k) = x (ix3 i 0 k) := by
  pointwise

/-- Every window's block starts at the array's first entry. -/
theorem off0 (t : Fin cfg0.N) : (fun a => win0_0.index t a * win0_0.size a) = fun _ => 0 :=
  (by decide +kernel : ∀ t : Fin grid0.N, (fun a => win0_0.index t a * win0_0.size a) = fun _ => 0) t
theorem off1 (t : Fin cfg0.N) : (fun a => win0_1.index t a * win0_1.size a) = fun _ => 0 :=
  (by decide +kernel : ∀ t : Fin grid0.N, (fun a => win0_1.index t a * win0_1.size a) = fun _ => 0) t
theorem off2 (t : Fin cfg0.N) : (fun a => win0_2.index t a * win0_2.size a) = fun _ => 0 :=
  (by decide +kernel : ∀ t : Fin grid0.N, (fun a => win0_2.index t a * win0_2.size a) = fun _ => 0) t
theorem off3 (t : Fin cfg0.N) : (fun a => win0_3.index t a * win0_3.size a) = fun _ => 0 :=
  (by decide +kernel : ∀ t : Fin grid0.N, (fun a => win0_3.index t a * win0_3.size a) = fun _ => 0) t

/-- The result window's block is as large as the array. -/
theorem xsize3 (t : Fin cfg0.N) : win0_3.xsize (grid0.coords t) = S8x27648.size :=
  (by decide +kernel : ∀ t : Fin grid0.N, win0_3.xsize (grid0.coords t) = S8x27648.size) t

/-- The activation block is the whole activation array. -/
theorem blk_x (c : Dev nD) (t : Fin cfg0.N) (i : Fin 8) (k : Fin 5120) :
    (iblk m c 0 t : Vec Ideal S8x5120 .bf16) (ix2 i k)
      = (m ((c : Thread nD τ).loc main_arg0) : S8x1x5120.Idx → Elt Ideal .bf16) (ix3 i 0 k) := by
  have e : (iblk m c 0 t : Vec Ideal S8x5120 .bf16) = (V m c main_v0 : S8x5120.Idx → Elt Ideal .bf16) :=
    Memref.read_access_unit_zero (Elt Ideal) main_v0 (off0 t) _ _
  exact (congrFun e (ix2 i k)).trans ((congrFun (after_x _) (ix2 i k)).trans (x_apply _ i k))

/-- The code block is the whole code array. -/
theorem blk_w (c : Dev nD) (t : Fin cfg0.N) :
    (iblk m c 1 t : Vec Ideal S27648x5120 .i8) = (m ((c : Thread nD τ).loc main_arg1) : S27648x5120.Idx → Elt Ideal .i8) := by
  have e : (iblk m c 1 t : Vec Ideal S27648x5120 .i8) = (V m c main_arg1 : S27648x5120.Idx → Elt Ideal .i8) :=
    Memref.read_access_unit_zero (Elt Ideal) main_arg1 (off1 t) _ _
  exact e.trans (V_main_arg1 m c)

/-- The scale block is the whole scale array. -/
theorem blk_d (c : Dev nD) (t : Fin cfg0.N) :
    (iblk m c 2 t : Vec Ideal S27648x160 .f16) = (m ((c : Thread nD τ).loc main_arg2) : S27648x160.Idx → Elt Ideal .f16) := by
  have e : (iblk m c 2 t : Vec Ideal S27648x160 .f16) = (V m c main_arg2 : S27648x160.Idx → Elt Ideal .f16) :=
    Memref.read_access_unit_zero (Elt Ideal) main_arg2 (off2 t) _ _
  exact e.trans (V_main_arg2 m c)

/-- The layer's result of device `c`'s arguments. -/
abbrev G (c : Dev nD) : Buf (Elt Ideal) ((c : Thread nD τ).loc main_v1) :=
  Cert.Linear.linear (m ((c : Thread nD τ).loc main_arg0)) (m ((c : Thread nD τ).loc main_arg1)) (m ((c : Thread nD τ).loc main_arg2))

/-- The one grid point leaves the layer's result. -/
theorem out_eq (c : Dev nD) (t : Fin cfg0.N) : out0_3 (F := Ideal) (iblk m c 0 t) (iblk m c 1 t) (iblk m c 2 t) = G m c := by
  funext j
  idx_vars j
  refine (out_apply _ _ _ _ _).trans (Finset.sum_congr rfl fun k _ => ?_)
  exact congrArg₂ (· * ·) (blk_x m c t _ k) (congrArg₂ (· * ·)
    (congrArg (fun b : BitVec 8 => ((b.toInt : ℝ) : EReal)) (congrFun (blk_w m c t) _)) (congrFun (blk_d m c t) _))

/-- What it writes back is the whole of the layer's result. -/
theorem flushed_eq (c : Dev nD) (t : Fin cfg0.N) :
    (dats m 0 c).flushed 3 t = ((cfg0.win 3).blk t).view.read (Elt Ideal) (G m c) := by
  rw [Value.flushed3, out_eq]
  exact (Memref.read_access_unit_zero (Elt Ideal) main_v1 (off3 t) _ _).symm

/-- Its block is the whole array. -/
theorem mem_blk (t : Fin cfg0.N) (i : S8x27648.Idx) : i ∈ ((cfg0.win 3).blk t).view.set := by
  show i ∈ ((View.whole main_v1).slice (win0_3.rect t)).set
  rw [View.set_slice_whole, Rect.mem_set_unit]
  intro a
  have h : win0_3.index t a * win0_3.size a = 0 := congrFun (off3 t) a
  have hx : win0_3.xsize (grid0.coords t) a = S8x27648.size a := congrFun (xsize3 t) a
  show win0_3.index t a * win0_3.size a ≤ (i a : Nat) ∧ (i a : Nat) < win0_3.index t a * win0_3.size a + win0_3.xsize (grid0.coords t) a
  rw [h, hx, Nat.zero_add]
  exact ⟨Nat.zero_le _, (i a).isLt⟩

/-- So it covers it. -/
theorem cover (i : S8x27648.Idx) : ∃ t : Fin cfg0.N, (cfg0.win 3).flush t = true ∧ i ∈ ((cfg0.win 3).blk t).view.set :=
  ⟨⟨0, by decide⟩, flush0_3 _, mem_blk _ i⟩

/-- The result array ends holding the layer's result. -/
theorem final (c : Dev nD) : (dats m 0 c).arrAt 3 cfg0.N = G m c :=
  (dats m 0 c).arrAt_eq_of_cover 3 (G m c) (fun t _ => flushed_eq m c t) cover

/-- The reference's run: its result is the layer's result, its arguments end unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.ReferenceIdeal.Whole

end
-- ==== Proof.lean ====
/-
  The proof of `Cert.Claim`: the three frames are the generated ones, the idealised kernel is the kernel's own text, and the
  kernel and the reference both leave `Cert.Linear.linear` of their arguments (Proof/KernelValue.lean, Proof/RefValue.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- From memories that agree on the arguments the kernel and the reference end with equal results. -/
theorem equal : Cert.algebraic_KernelIdeal_ReferenceIdeal
    (hKernelIdeal := Cert.KernelIdeal.Gen.facts) (hReferenceIdeal := Cert.ReferenceIdeal.Gen.facts) := by
  intro m g m' g' _ hargs
  refine ⟨fun c => Cert.KernelIdeal.Whole.G m c, Cert.KernelIdeal.Whole.run m g,
    (θ_run _ _ _).mono (fun _ h c => ⟨(h c).1.trans ?_, (h c).2⟩) (Cert.ReferenceIdeal.Whole.run m' g')⟩
  obtain ⟨h0, h1, h2⟩ := hargs c
  show Cert.Linear.linear _ _ _ = Cert.Linear.linear _ _ _
  rw [h0, h1, h2]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, equal⟩

end Cert.Proof

end
